-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x128 : Shape := ⟨2, ![1000000, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000000x128 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000000x128 : Shape := ⟨2, ![1000000, 128]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S128x128 : Shape := ⟨2, ![128, 128]⟩
abbrev S128 : Shape := ⟨1, ![128]⟩

abbrev nBuf : Table → Nat
  | .hbm => 3
  | .local .scVector .vmem => 2
  | _ => 0

abbrev bufTy : (tb : Table) → Fin (nBuf tb) → BufTy
  | .hbm, ⟨0, _⟩ => ⟨S16384, .i32⟩
  | .hbm, ⟨1, _⟩ => ⟨S1000000x128, .f32⟩
  | .hbm, ⟨2, _⟩ => ⟨S16384x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v9 : BitVec 32 := Scalar.addi v2 c0_i32_9
  let c0_i32_12 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x128 : Shape := ⟨2, ![1000000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Range.lean ====
/-
  The precondition in plain terms: where the claims' test of the row numbers answers one, every row number names a row of
  the table (`inRange_of_test`).
-/
module

public import proofs.«01_k».proof.Defs
public import Idealize.ShloMosaic.Lib.ReduceAll
public import Idealize.ShloMosaic.Lib.Affine
public import proofs.«01_k».proof.Proof.Gen.Pre_in_range

@[expose] public section

noncomputable section

namespace Cert.Proof.Range

open Idealize.ShloMosaic

/-- A one-bit word made of a truth value is one when the value is true. -/
theorem ofBool_one {b : Bool} : BitVec.ofBool b = 1#1 ↔ b = true := by cases b <;> decide

/-- A word at least zero and below a million, as signed words compare, is below a million as a number. -/
theorem lt_of_signed (v : BitVec 32) (h0 : IntOp.cmpi .sge v 0#32 = 1#1) (h1 : IntOp.cmpi .slt v 1000000#32 = 1#1) :
    v.toNat < 1000000 := by
  have e0 : (0#32).toInt ≤ v.toInt := BitVec.sle_iff_toInt_le.1 (ofBool_one.1 h0)
  have e1 : v.toInt < (1000000#32).toInt := BitVec.slt_iff_toInt_lt.1 (ofBool_one.1 h1)
  have z : (0#32).toInt = 0 := by decide
  have k : (1000000#32).toInt = 1000000 := by decide
  have := BitVec.toInt_eq_toNat_cond v
  split at this <;> omega

/-- Where the test of the row numbers answers one, each of them is below a million. -/
theorem inRange_of_test {F : FTy → Type} [FloatOps F] (i : IVec Cert.Pre_in_range.S16384 32) (x : FVec F Cert.Pre_in_range.S1000000x128 .f32)
    (h : Cert.Pre_in_range.fn (F := F) i x = fun _ => 1#1) (j : Cert.Pre_in_range.S16384.Idx) : (i j).toNat < 1000000 := by
  haveI : Subsingleton Cert.Pre_in_range.S_.Idx := ⟨fun a b => funext fun k => k.elim0⟩
  have e := Host.reduce_andi_all _ _ _ _ default (congrFun h default) j
  obtain ⟨e0, e1⟩ := IntOp.andi_eq_one.1 e
  exact lt_of_signed _ e0 e1

end Cert.Proof.Range

end
-- ==== Proof.Reference.lean ====
/-
  The reference program's result in plain terms (`ref_eq`): where every row number names a row of the table, row `j` of the
  result is the table's row that row number `j` names. The reference first moves negative row numbers up by the table's
  height and last puts a NaN in the rows whose number is out of range: neither happens here.
-/
module

public import proofs.«01_k».proof.Proof.Gen.ReferenceIdeal.Run
public import Idealize.ShloMosaic.Lib.ReduceAll
public import Idealize.ShloMosaic.Lib.Affine
public import Idealize.ShloMosaic.Lib.Routing.Ops
public import Idealize.ShloMosaic.Lib.ValueIdxCore

@[expose] public section

noncomputable section

namespace Cert.Proof.Reference

open Cert.ReferenceIdeal Cert.ReferenceIdeal.Gen Idealize.ShloMosaic Idealize.ShloMosaic.ValueIdx

/-! ## One row number -/

/-- A word below a million is what it is as a signed word. -/
theorem toInt_small {v : BitVec 32} (h : v.toNat < 1000000) : v.toInt = v.toNat := by
  rw [BitVec.toInt_eq_toNat_cond, if_pos (by omega)]

/-- It is not negative, -/
theorem not_neg {v : BitVec 32} (h : v.toNat < 1000000) : IntOp.cmpi .slt v 0#32 = 0#1 := by
  have e : v.slt 0#32 = false := by
    rw [BitVec.slt_eq_decide, toInt_small h]
    exact decide_eq_false (by simp)
  exact congrArg BitVec.ofBool e

/-- it is at least zero, -/
theorem nonneg {v : BitVec 32} (h : v.toNat < 1000000) : IntOp.cmpi .sge v 0#32 = 1#1 := by
  have e : (0#32).sle v = true := by
    rw [BitVec.sle_eq_decide, toInt_small h]
    exact decide_eq_true (by simp)
  exact congrArg BitVec.ofBool e

/-- and at most the number of the last row. -/
theorem le_last {v : BitVec 32} (h : v.toNat < 1000000) : IntOp.cmpi .sle v 999999#32 = 1#1 := by
  have e : v.sle 999999#32 = true := by
    rw [BitVec.sle_eq_decide, toInt_small h, toInt_small (v := 999999#32) (by decide)]
    exact decide_eq_true (by have : (999999#32).toNat = 999999 := rfl; omega)
  exact congrArg BitVec.ofBool e

/-! ## The reference's stages -/

variable {F : FTy → Type} [FloatOps F] (i : IVec S16384 32) (x : FVec F S1000000x128 .f32)

/-- The row numbers as the reference's gather takes them: a negative one moved up by the table's height, one per row. -/
abbrev rowNums : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1000000#32))) i)

/-- Which row numbers are in range, as the reference tests it. -/
abbrev inside : IVec S16384 1 :=
  Host.reduce IntOp.andi
    (andi (cmpi .sge (rowNums i) (broadcastInDim S16384x1 ![] bcast_S_S16384x1 (constantI S_ 32 0#32)))
      (cmpi .sle (rowNums i) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The reference's result. -/
abbrev refOut : FVec F S16384x128 .f32 :=
  select (broadcastInDim S16384x128 ![0] bcast_S16384_S16384x128_0 (inside i))
    (Host.gather gather_S1000000x128_S16384x1_S16384x128_1_0_n_n_0_1_1128 x (rowNums i))
    (broadcastInDim S16384x128 ![] bcast_S_S16384x128 (constant S_ .f32 0x7FC00000#32))

/-- Row numbers in range are taken as they are. -/
theorem rowNums_apply (hi : ∀ j, (i j).toNat < 1000000) (y : S16384x1.Idx) : rowNums i y = i (ix1 (y 0)) := by
  show (select _ _ i) _ = _
  unfold select
  have e : ∀ j, cmpi .slt i (broadcastInDim S16384 ![] bcast_S_S16384 (constantI S_ 32 0#32)) j = 0#1 := fun j => not_neg (hi j)
  rw [e]
  exact congrArg i (funext fun a => match a with | 0 => rfl)

/-- All of them are in range. -/
theorem inside_eq (hi : ∀ j, (i j).toNat < 1000000) (j : S16384.Idx) : inside i j = 1#1 :=
  Host.reduce_andi_one _ _ _ _ _ rfl fun y => by
    refine IntOp.andi_eq_one.2 ⟨?_, ?_⟩
    · show IntOp.cmpi .sge (rowNums i y) 0#32 = 1#1
      rw [rowNums_apply i hi]; exact nonneg (hi _)
    · show IntOp.cmpi .sle (rowNums i y) 999999#32 = 1#1
      rw [rowNums_apply i hi]; exact le_last (hi _)

/-- Element `(k, c)` of the reference's result is element `c` of the table's row that row number `k` names. -/
theorem ref_eq (hi : ∀ j, (i j).toNat < 1000000) (k : Fin 16384) (c : Fin 128) :
    refOut i x (ix2 k c) = x (ix2 (⟨(i (ix1 k)).toNat, hi _⟩ : Fin 1000000) c) := by
  have hrow : rowNums i (ix2 k (0 : Fin 1)) = BitVec.ofNat 32 (i (ix1 k)).toNat := by
    rw [rowNums_apply i hi, BitVec.ofNat_toNat, BitVec.setWidth_eq]
  have hg := Routing.gather_row gather_S1000000x128_S16384x1_S16384x128_1_0_n_n_0_1_1128 rfl rfl rfl rfl rfl x (rowNums i) k c
    ⟨_, hi (ix1 k)⟩ hrow (by decide)
  show (select _ _ _) _ = _
  unfold select
  rw [show broadcastInDim S16384x128 ![0] bcast_S16384_S16384x128_0 (inside i) (ix2 k c) = 1#1 from inside_eq i hi _]
  exact hg

end Cert.Proof.Reference

end
-- ==== Proof.Setup.lean ====
/-
  The set-up shared by the proof's other modules: the kernel as the launch theorem sees it, the buffers by name, the
  condition the row numbers meet, the contents the kernel leaves in its result, and the cut of the work between the
  32 tasks. Task `w` (SparseCore `c`, vector subcore `s`, `w = 2 s + c`) owns rows `512 w .. 512 w + 511` of the result,
  as four blocks of 128 rows; the row numbers and the table are only read, by all tasks, each under its own
  thirty-second share.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The launch's own ghost state, beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ)

/-- The row numbers, the table and the result, as the TensorCore names them. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- The same three as a vector subcore names them, and its two scratch buffers: the fetched row numbers and rows. -/
abbrev iV : Memref sig Kind.scVector Space.hbm S16384 EltTy.i32 := Memref.whole main_arg0_scv
abbrev xV : Memref sig Kind.scVector Space.hbm S1000000x128 EltTy.f32 := Memref.whole main_arg1_scv
abbrev oV : Memref sig Kind.scVector Space.hbm S16384x128 EltTy.f32 := Memref.whole main_v0_scv
abbrev lV : Memref sig Kind.scVector Space.vmem S512 EltTy.i32 := Memref.whole cc0_scratch0
abbrev rV : Memref sig Kind.scVector Space.vmem S512x128 EltTy.f32 := Memref.whole cc0_scratch1

/-! ## What is asked of the row numbers, and what the kernel leaves -/

/-- Every row number names a row of the table. -/
def InRange : Prop := ∀ (d : Dev nD) (j : S16384.Idx), (m (iLoc d) j).toNat < 1000000

/-- The row of the table that row number `j` names. -/
def rowOf (d : Dev nD) (hm : InRange m) (j : Fin 16384) : Fin 1000000 := ⟨(m (iLoc d) (ix1 j)).toNat, hm d _⟩

/-- The result: row `j` is the table's row that row number `j` names. -/
def taken (d : Dev nD) (hm : InRange m) : Buf (Elt F) (oLoc d) :=
  fun (x : S16384x128.Idx) => (m (xLoc d) (ix2 (rowOf m d hm (x 0)) (x 1) : S1000000x128.Idx) : F .f32)

/-! ## The cut of the work -/

/-- The task on SparseCore `c`, vector subcore `s`: number `2 s + c`. -/
def taskOf : Fin 2 × Fin 16 ≃ Fin 32 := (Equiv.prodComm _ _).trans finProdFinEquiv

theorem taskOf_val (c : Fin 2) (s : Fin 16) : (taskOf (c, s)).val = c.val + 2 * s.val := rfl

/-- Block `g` of task `w`'s four: number `4 w + g` of the result's 128 blocks of 128 rows. -/
def blockOf : Fin 32 × Fin 4 ≃ Fin 128 := finProdFinEquiv

theorem blockOf_val (w : Fin 32) (g : Fin 4) : (blockOf (w, g)).val = g.val + 4 * w.val := rfl

theorem odiv : 128 ∣ S16384x128.size 0 := ⟨128, rfl⟩
/-- The result's block number `k`: rows `128 k .. 128 k + 127`. -/
abbrev oBlk (k : Fin 128) : Rect S16384x128 := Rect.part (s := S16384x128) (a₀ := 0) odiv k
abbrev oSet (k : Fin 128) : Finset S16384x128.Idx := (oBlk k).set

/-- Task `w`'s share of an array that every task reads. -/
abbrev rq (w : Fin 32) : PosShare TreeShare := pieceOf fullShare 32 (by decide) w

abbrev iShare (d : Dev nD) (w : Fin 32) : sProp 𝕄 := iLoc d ↦{rq w} m (iLoc d)
abbrev xShare (d : Dev nD) (w : Fin 32) : sProp 𝕄 := xLoc d ↦{rq w} m (xLoc d)
abbrev oBlock (d : Dev nD) (f : Buf (Elt F) (oLoc d)) (k : Fin 128) : sProp 𝕄 := oLoc d ↦[oSet k]{fullShare} f

/-- What task `w` holds: its shares of the two arrays read, its four blocks of the result at the contents `f`. -/
abbrev part (d : Dev nD) (f : Buf (Elt F) (oLoc d)) (w : Fin 32) : sProp 𝕄 :=
  iprop(iShare m d w ∗ xShare m d w ∗ bigSep Finset.univ fun g : Fin 4 => oBlock d f (blockOf (w, g)))

/-- The three arrays whole are the 32 tasks' parts, whatever the result holds. -/
theorem whole_eq_parts (d : Dev nD) (f : Buf (Elt F) (oLoc d)) :
    (iprop((iLoc d ↦{fullShare} m (iLoc d)) ∗ (xLoc d ↦{fullShare} m (xLoc d)) ∗ oLoc d ↦{fullShare} f) : sProp 𝕄)
      = bigSep Finset.univ fun c : Fin 2 => bigSep Finset.univ fun s : Fin 16 => part m d f (taskOf (c, s)) := by
  have ho : (oLoc d ↦{fullShare} f : sProp 𝕄)
      = bigSep Finset.univ fun w : Fin 32 => bigSep Finset.univ fun g : Fin 4 => oBlock d f (blockOf (w, g)) := by
    rw [← bigSep_univ_prod (fun p : Fin 32 × Fin 4 => oBlock (F := F) d f (blockOf p)),
      ← bigSep_univ_equiv blockOf (fun k => oBlock (F := F) d f k),
      ← pointsTo_biUnion Finset.univ (ℓ := oLoc d) oSet fun i _ j _ h => Rect.part_disjoint odiv h, Rect.biUnion_part odiv]
    try rfl
  rw [ho, pointsTo_piecesOf Finset.univ (m (iLoc d)) (by decide : 0 < 32) fullShare,
    pointsTo_piecesOf Finset.univ (m (xLoc d)) (by decide : 0 < 32) fullShare, ← bigSep_sep', ← bigSep_sep',
    bigSep_univ_equiv taskOf (fun w => part m d f w), bigSep_univ_prod]

end Cert.Proof.Gather

end
-- ==== Proof.Values.lean ====
/-
  What one task's copies carry. The fetch brings the task's 512 row numbers into its list; a gather of 128 rows reads the
  table at the 128 list words from `n` on (`gathered_apply`); the copy of those rows to the result leaves there what
  `taken` says (`oDst_taken`). Each fact is stated once, for a stretch starting at any `n`.
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The task's place -/

abbrev cV (L : grid0.Coords) : Fin τ.nSC := (L 0).castLE hcore0
abbrev jV (L : grid0.Coords) : Fin τ.nSub := (L 1).castLE hsub0
/-- The task's thread. -/
abbrev thr (d : Dev nD) (L : grid0.Coords) : Thread nD τ := V d (cV L) (jV L)
/-- The task's number. -/
abbrev wL (L : grid0.Coords) : Fin 32 := taskOf (L 0, L 1)

theorem wL_val : (wL L).val = (L 0).val + 2 * (L 1).val := rfl

/-- The task's row numbers, in the array of all of them. -/
abbrev iRows (L : grid0.Coords) : Memref sig .scVector .hbm S512 .i32 :=
  (iV).slice (Rect.unit (s := S16384) (k0_off1 L) S512.size (k0_off1_inb L)) (fun _ => rfl)
/-- The table, as the gathers name it: all of its rows. -/
abbrev xRows (h : ∀ a, (![0, 0] : Fin 2 → ℕ) a + S1000000x128.size a ≤ S1000000x128.size a) :
    Memref sig .scVector .hbm S1000000x128 .f32 :=
  (xV).slice (Rect.unit (s := S1000000x128) ![0, 0] S1000000x128.size h) (fun _ => rfl)
/-- The task's list from word `n` on, 128 words. -/
abbrev lPart (n : ℕ) (h : ∀ a, (![n] : Fin 1 → ℕ) a + S128.size a ≤ S512.size a) : Memref sig .scVector .vmem S128 .i32 :=
  (lV).slice (Rect.unit (s := S512) ![n] S128.size h) (fun _ => rfl)
/-- A block of 128 rows of the result. -/
abbrev oDst (L : grid0.Coords) (w : BitVec 32) (h : ∀ a, k0_off2 L w a + S128x128.size a ≤ S16384x128.size a) :
    Memref sig .scVector .hbm S128x128 .f32 :=
  (oV).slice (Rect.unit (s := S16384x128) (k0_off2 L w) S128x128.size h) (fun _ => rfl)

/-- Word `n + k` of the task's list is row number `512 w + n + k`. -/
theorem row_lt (n : ℕ) (k : Fin 128) (hn : n + 128 ≤ 512) : 512 * (wL L).val + n + k.val < 16384 := by
  have := (wL L).isLt; omega

/-! ## The list -/

/-- The list after the fetch, read 128 words from word `n` on: the row numbers `512 w + n ..`. -/
theorem list_apply (g0 : Buf (Elt F) ((lV).view.loc (thr d L))) (pay : S512.Idx → Elt F .i32)
    (hpay : pay = (iRows L).view.read (Elt F) (m (iLoc d))) (n : ℕ) (hn : n + 128 ≤ 512)
    (h : ∀ a, (![n] : Fin 1 → ℕ) a + S128.size a ≤ S512.size a) (k : Fin 128) :
    View.read (Elt F) (lPart n h).view ((lV).view.writes (Elt F) g0 [⟨Rect.whole cc0_scratch0.ty.shape, pay⟩]) (ix1 k)
      = m (iLoc d) (ix1 ⟨512 * (wL L).val + n + k.val, row_lt L n k hn⟩) := by
  subst hpay
  have e : View.read (Elt F) (lPart n h).view ((lV).view.writes (Elt F) g0
        [⟨Rect.whole cc0_scratch0.ty.shape, (iRows L).view.read (Elt F) (m (iLoc d))⟩]) (ix1 k)
      = View.read (Elt F) (lV).view ((lV).view.writes (Elt F) g0
        [⟨Rect.whole cc0_scratch0.ty.shape, (iRows L).view.read (Elt F) (m (iLoc d))⟩])
          ((Rect.unit (s := S512) ![n] S128.size h).emb (ix1 k)) := rfl
  refine (e.trans (congrFun (View.read_writes_whole (lV).view g0 _) _)).trans ?_
  refine ((View.read_apply _ _).trans (cast_eq _ _)).trans (congrArg (m (iLoc d)) (funext fun a => ?_))
  match a with
  | 0 =>
    refine Fin.ext (show k0_off1 L 0 + 1 * (n + 1 * k.val) = 512 * (wL L).val + n + k.val from ?_)
    rw [k0_off1_eq, wL_val]
    show 1024 * (L 1).val + 512 * (L 0).val + 1 * (n + 1 * k.val) = _
    omega

/-- Every word of such a stretch names a row of the table. -/
theorem list_inRange (hm : InRange m) (g0 : Buf (Elt F) ((lV).view.loc (thr d L))) (pay : S512.Idx → Elt F .i32)
    (hpay : pay = (iRows L).view.read (Elt F) (m (iLoc d))) (n : ℕ) (hn : n + 128 ≤ 512)
    (h : ∀ a, (![n] : Fin 1 → ℕ) a + S128.size a ≤ S512.size a) (x : S128.Idx) :
    (View.read (Elt F) (lPart n h).view
      ((lV).view.writes (Elt F) g0 [⟨Rect.whole cc0_scratch0.ty.shape, pay⟩]) x).toNat < 1000000 := by
  obtain ⟨k, rfl⟩ : ∃ k : Fin 128, x = ix1 k := ⟨x 0, eq_ix1 x⟩
  rw [list_apply m d L g0 pay hpay n hn h]
  exact hm d _

/-! ## The gathered rows -/

/-- A gather's row `k` is the table's row that row number `512 w + n + k` names. -/
theorem gathered_apply (hm : InRange m) (g0 : Buf (Elt F) ((lV).view.loc (thr d L))) (pay : S512.Idx → Elt F .i32)
    (hpay : pay = (iRows L).view.read (Elt F) (m (iLoc d))) (n : ℕ) (hn : n + 128 ≤ 512)
    (h : ∀ a, (![n] : Fin 1 → ℕ) a + S128.size a ≤ S512.size a)
    (h0 : ∀ a, (![0, 0] : Fin 2 → ℕ) a + S1000000x128.size a ≤ S1000000x128.size a)
    (hg : S1000000x128.Gathers 0 S128x128) (hk : S128.numel = S128x128.size hg.axis')
    (hin : ∀ x, (View.read (Elt F) (lPart n h).view
      ((lV).view.writes (Elt F) g0 [⟨Rect.whole cc0_scratch0.ty.shape, pay⟩]) x).toNat < S1000000x128.size hg.axis)
    (k c : Fin 128) :
    SparseCore.gatherPayload hg ((xRows h0).view.read (Elt F) (m (xLoc d)))
        (SparseCore.rows (View.read (Elt F) (lPart n h).view
          ((lV).view.writes (Elt F) g0 [⟨Rect.whole cc0_scratch0.ty.shape, pay⟩])) hk hin) (ix2 k c)
      = m (xLoc d) (ix2 (rowOf m d hm ⟨512 * (wL L).val + n + k.val, row_lt L n k hn⟩) c) := by
  unfold SparseCore.gatherPayload
  refine ((View.read_apply _ _).trans (cast_eq _ _)).trans (congrArg (m (xLoc d)) (funext fun a => Fin.ext ?_))
  match a with
  | 0 =>
    show 0 + 1 * (hg.idx _ (ix2 k c) hg.axis).val = _
    rw [Shape.Gathers.idx_axis, Nat.zero_add, Nat.one_mul]
    have hx : S128.rowMajor.symm ((ix2 k c hg.axis').cast hk.symm) = ix1 k :=
      (Equiv.symm_apply_eq _).2 (Fin.ext (by rw [Shape.rowMajor_val_one]; rfl))
    show (View.read (Elt F) (lPart n h).view _ (S128.rowMajor.symm ((ix2 k c hg.axis').cast hk.symm))).toNat = _
    rw [hx, list_apply m d L g0 pay hpay n hn h]
    rfl
  | 1 =>
    show 0 + 1 * (hg.idx _ (ix2 k c) (1 : Fin 2)).val = c.val
    rw [Nat.zero_add, Nat.one_mul]
    exact Shape.Gathers.idx_of_ne hg _ (ix2 k c) (1 : Fin 2) Nat.one_ne_zero

/-! ## The rows in the scratch, read back -/

/-- The part of the row scratch written last reads back what was written, whatever was written before it. -/
theorem rows_read (t0 : Buf (Elt F) ((rV).view.loc (thr d L))) (off : Fin 2 → ℕ)
    (h : ∀ a, off a + S128x128.size a ≤ S512x128.size a) (p : S128x128.Idx → Elt F .f32)
    (ps : List (View.Piece (Elt F) S512x128 .f32)) :
    View.read (Elt F) ((rV).slice (Rect.unit (s := S512x128) off S128x128.size h) (fun _ => rfl)).view
      ((rV).view.writes (Elt F) t0 (⟨Rect.unit (s := S512x128) off S128x128.size h, p⟩ :: ps)) = p :=
  View.read_write_univ _ _

/-! ## The blocks of the result -/

/-- The kernel's offset of a block is the block's place in the cut of the work. -/
theorem oDst_set (g : Fin 4) (w : BitVec 32) (h : ∀ a, k0_off2 L w a + S128x128.size a ≤ S16384x128.size a)
    (hw : w = BitVec.ofNat 32 (128 * g.val)) : (oDst L w h).view.set = oSet (blockOf (wL L, g)) := by
  subst hw
  show ((View.whole (main_v0_scv : Ref sig .scVector)).slice _).set = _
  rw [View.set_slice]
  refine Finset.map_refl.trans (congrArg (fun r : Rect S16384x128 => r.set) ?_)
  show Rect.unit _ _ _ = _
  unfold oBlk Rect.part Rect.block
  congr 1 <;> funext a
  · rw [k0_off2_eq]
    match a with
    | 0 =>
      show 1024 * (L 1).val + 512 * (L 0).val + 128 * g.val = _
      simp only [Shape.partIx, Shape.partSize]
      show _ = (blockOf (wL L, g)).val * (16384 / 128)
      rw [blockOf_val, wL_val]; omega
    | 1 => simp [Shape.partIx, Shape.partSize]
  · match a with
    | 0 => simp [Shape.partSize]
    | 1 => simp [Shape.partSize]

/-- A block written with the rows its row numbers name holds what `taken` says of it. -/
theorem oDst_taken (hm : InRange m) (g : Fin 4) (w : BitVec 32) (h : ∀ a, k0_off2 L w a + S128x128.size a ≤ S16384x128.size a)
    (hw : w = BitVec.ofNat 32 (128 * g.val)) (f : Buf (Elt F) (oLoc d)) (p : S128x128.Idx → Elt F .f32)
    (hp : ∀ k c : Fin 128, p (ix2 k c)
      = m (xLoc d) (ix2 (rowOf m d hm ⟨512 * (wL L).val + 128 * g.val + k.val, row_lt L _ k (by omega)⟩) c)) :
    ((oDst L w h).view.loc (thr d L) ↦[(oDst L w h).view.set]{fullShare}
        (oDst L w h).view.writes (Elt F) f [⟨Rect.whole S128x128, p⟩] : sProp 𝕄)
      = oBlock d (taken m d hm) (blockOf (wL L, g)) := by
  rw [show (oBlock d (taken m d hm) (blockOf (wL L, g)) : sProp 𝕄)
    = (oDst L w h).view.loc (thr d L) ↦[(oDst L w h).view.set]{fullShare} taken m d hm by rw [oDst_set L g w h hw]]
  refine pointsTo_congr fun i hi => ?_
  obtain ⟨y, -, rfl⟩ := Finset.mem_map.mp hi
  have e := congrFun (View.read_writes_whole (oDst L w h).view f p) y
  rw [View.read_apply] at e
  refine ((cast_eq _ _).symm.trans e).trans ?_
  obtain ⟨k, c, rfl⟩ : ∃ k c : Fin 128, y = ix2 k c := ⟨y 0, y 1, eq_ix2 y⟩
  rw [hp]
  unfold taken
  have h0 : ((oDst L w h).view.emb (ix2 k c) : S16384x128.Idx) 0
      = ⟨512 * (wL L).val + 128 * g.val + k.val, row_lt L _ k (by omega)⟩ := by
    refine Fin.ext (show k0_off2 L w 0 + 1 * k.val = 512 * (wL L).val + 128 * g.val + k.val from ?_)
    subst hw
    rw [k0_off2_eq, wL_val]
    show 1024 * (L 1).val + 512 * (L 0).val + 128 * g.val + 1 * k.val = _
    omega
  have h1 : ((oDst L w h).view.emb (ix2 k c) : S16384x128.Idx) 1 = c := by
    refine Fin.ext (show k0_off2 L w 1 + 1 * c.val = c.val from ?_)
    subst hw
    rw [k0_off2_eq]
    show 0 + 1 * c.val = _
    omega
  rw [h0, h1]
  rfl

end Cert.Proof.Gather

end
-- ==== Proof.Tile.lean ====
/-
  One task of the kernel, run from the part of the arrays it is dealt to the same part with its four blocks of the result
  filled in (`task_run`, in the kernel's own names; `task_body`, in the launch's), and the launch theorem's obligation for
  the tasks (`tileObl`).
-/
module

public import proofs.«01_k».proof.Proof.Values

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The task's own semaphores and scratch -/

/-- Cell number `k` of the task's nine: the four gathers', the four writes', the fetch's. -/
abbrev cell (d : Dev nD) (L : grid0.Coords) (k : Fin 9) : GSem nD τ sig := (thr d L, SemLoc.dma (⟨k.val, k.isLt⟩ : DmaSem sig))

/-- The nine cells at zero. -/
abbrev cells (d : Dev nD) (L : grid0.Coords) : sProp 𝕄 :=
  iprop(semVal (cell d L 0) 0 ∗ semVal (cell d L 1) 0 ∗ semVal (cell d L 2) 0 ∗ semVal (cell d L 3) 0 ∗ semVal (cell d L 4) 0
    ∗ semVal (cell d L 5) 0 ∗ semVal (cell d L 6) 0 ∗ semVal (cell d L 7) 0 ∗ semVal (cell d L 8) 0)

/-- The nine cells, each taken once. -/
abbrev cellEmb (d : Dev nD) (L : grid0.Coords) : Fin 9 ↪ GSem nD τ sig :=
  ⟨cell d L, fun a b h => by
    have h2 := congrArg (fun g : GSem nD τ sig => g.2) h
    simp only [SemLoc.dma.injEq, Fin.mk.injEq] at h2
    exact Fin.ext h2⟩

/-- The subcore's own cells at zero: the nine and the rest. -/
theorem ownSems0_thr :
    (ownSems0 (thr d L) : sProp 𝕄)
      = iprop(cells d L ∗ bigSep (ownCells (thr d L) \ Finset.univ.map (cellEmb d L)) fun g => semVal g 0) := by
  unfold SparseCore.Cfg.ownSems0
  have hsub : Finset.univ.map (cellEmb d L) ⊆ ownCells (thr d L) := fun g hg => by
    obtain ⟨k, -, rfl⟩ := Finset.mem_map.mp hg
    exact mem_ownCells.mpr ⟨rfl, (show ∀ s : DmaSem sig, (SemLoc.dma s : SemLoc sig).isScoped .scVector = true by decide) _⟩
  rw [SparseCore.bigSep_sdiff_split' hsub, bigSep_map,
    show (Finset.univ : Finset (Fin 9)) = {0, 1, 2, 3, 4, 5, 6, 7, 8} by decide]
  repeat rw [SparseCore.bigSep_insert' (by decide)]
  rw [bigSep_singleton]
  rfl

/-- The task's two scratch buffers: the list and the rows. -/
abbrev scratch : Fin 2 → Ref sig .scVector := ![cc0_scratch0, cc0_scratch1]

theorem scratch_injective : Function.Injective scratch := by decide

/-- The two, each taken once. -/
abbrev scratchEmb (L : grid0.Coords) : Fin 2 ↪ DevRef τ sig :=
  ⟨fun k => (Proc.scVector (cV L) (jV L)).devRef (scratch k), fun _ _ h => scratch_injective (Proc.devRef_injective _ h)⟩

/-- The subcore's own buffers at some contents: the list, the row scratch and the rest. -/
theorem ownBufs_thr :
    (ownBufs (thr d L) : sProp 𝕄)
      = iprop((∃ f, (lV).view.loc (thr d L) ↦[(lV).view.set]{fullShare} f) ∗ (∃ f, (rV).view.loc (thr d L) ↦[(rV).view.set]{fullShare} f)
          ∗ bigSep (ownRefs (τ := τ) (.scVector (cV L) (jV L)) \ Finset.univ.map (scratchEmb L))
              fun b => iprop(∃ f, ((d, b) : Loc nD τ sig) ↦{fullShare} f)) := by
  have hsub : Finset.univ.map (scratchEmb L) ⊆ ownRefs (τ := τ) (.scVector (cV L) (jV L)) := fun b hb => by
    obtain ⟨k, -, rfl⟩ := Finset.mem_map.mp hb
    refine SparseCore.Cfg.mem_ownRefs_of_owner ?_
    revert k
    exact Fin.forall_fin_two.2 ⟨fun _ => rfl, fun _ => rfl⟩
  rw [show (lV).view.set = Finset.univ from View.set_whole _, show (rV).view.set = Finset.univ from View.set_whole _]
  unfold SparseCore.Cfg.ownBufs
  refine (SparseCore.bigSep_sdiff_split' hsub).trans ?_
  rw [bigSep_map, bigSep_fin_two]
  exact equiv_iff.mp ⟨BI.sep_assoc, BI.sep_assoc'⟩

/-! ## The run -/

/-- A block of the result, as the kernel names it. -/
abbrev oPts (d : Dev nD) (L : grid0.Coords) (w : BitVec 32) (h : ∀ a, k0_off2 L w a + S128x128.size a ≤ S16384x128.size a)
    (f : Buf (Elt F) (oLoc d)) : sProp 𝕄 :=
  (oDst L w h).view.loc (thr d L) ↦[(oDst L w h).view.set]{fullShare} f

/-- The task runs: it fetches its row numbers, gathers the four stretches of rows they name and writes each to its block
    of the result, which then holds what `taken` says. -/
theorem task_run (hm : InRange m) (O : CellTallies nD τ sig (HIx 1)) (W : Waits sig (HIx 1))
    (g0 : Buf (Elt F) ((lV).view.loc (thr d L))) (t0 : Buf (Elt F) ((rV).view.loc (thr d L))) :
    (iprop(Transfers.MayWaits (thr d L) (default : HIx 1) O
        ∗ ((iV).view.loc (thr d L) ↦{rq (wL L)} m (iLoc d))
        ∗ ((xV).view.loc (thr d L) ↦{rq (wL L)} m (xLoc d))
        ∗ oPts d L 0#32 (k0_off2_inb L 0) (m (oLoc d)) ∗ oPts d L 128#32 (k0_off2_inb L 1) (m (oLoc d))
        ∗ oPts d L 256#32 (k0_off2_inb L 2) (m (oLoc d)) ∗ oPts d L 384#32 (k0_off2_inb L 3) (m (oLoc d))
        ∗ ((lV).view.loc (thr d L) ↦[(lV).view.set]{fullShare} g0)
        ∗ ((rV).view.loc (thr d L) ↦[(rV).view.set]{fullShare} t0)
        ∗ cells d L
        ∗ owes (thr d L) O W) : sProp 𝕄)
      ⊢ wp frame (wpE (defs₀ (F := F)) 𝒱₀ (thr d L) none) Set.univ
          (cc0__gather_body L xV (Memref.isWhole_whole _) iV (Memref.isWhole_whole _) oV (Memref.isWhole_whole _)
            lV (Memref.isWhole_whole _) rV (Memref.isWhole_whole _) cc0_scratch2 cc0_scratch3 cc0_scratch4 cc0_scratch5
            cc0_scratch6 cc0_scratch7 cc0_scratch8 cc0_scratch9 cc0_scoped0)
          fun _ => iprop(((iV).view.loc (thr d L) ↦{rq (wL L)} m (iLoc d))
            ∗ ((xV).view.loc (thr d L) ↦{rq (wL L)} m (xLoc d))
            ∗ oBlock d (taken m d hm) (blockOf (wL L, 0)) ∗ oBlock d (taken m d hm) (blockOf (wL L, 1))
            ∗ oBlock d (taken m d hm) (blockOf (wL L, 2)) ∗ oBlock d (taken m d hm) (blockOf (wL L, 3))
            ∗ (∃ g, (lV).view.loc (thr d L) ↦[(lV).view.set]{fullShare} g)
            ∗ (∃ g, (rV).view.loc (thr d L) ↦[(rV).view.set]{fullShare} g)
            ∗ cells d L
            ∗ ∃ W', ⌜∀ p ∈ W', p ∈ W ∨ p.2 = none⌝ ∗ owes (thr d L) O W') := by
  iintro ⟨#Hmw, HI, HX, HO0, HO1, HO2, HO3, HG, HT, ⟨Hc0, Hc1, Hc2, Hc3, Hc4, Hc5, Hc6, Hc7, Hc8⟩, HO⟩
  sl_unfold [cc0__gather_body]
  sl_exec
  -- the list's words name rows of the table, from whatever place a gather reads it
  have hidx := fun g => list_inRange m d L hm g (task_run.sl.dma0 m d L) rfl
  have hidx0 := fun g => hidx g 0 (by decide)
  have hidx1 := fun g => hidx g 128 (by decide)
  have hidx2 := fun g => hidx g 256 (by decide)
  have hidx3 := fun g => hidx g 384 (by decide)
  clear hidx
  sl_exec
  -- what each block is written with, element by element
  have v0 : ∀ k c : Fin 128, task_run.sl.dma0_1 m d L t0 hidx0 (ix2 k c) = _ := fun k c =>
    (congrFun (rows_read d L t0 _ _ (task_run.sl.gather0 m d L hidx0) _) _).trans
      (gathered_apply m d L hm _ _ rfl 0 (by decide) _ _ _ _ _ k c)
  have v1 : ∀ k c : Fin 128, task_run.sl.dma0_2 m d L t0 hidx0 hidx1 (ix2 k c) = _ := fun k c =>
    (congrFun (rows_read d L t0 _ _ (task_run.sl.gather2 m d L hidx1) _) _).trans
      (gathered_apply m d L hm _ _ rfl 128 (by decide) _ _ _ _ _ k c)
  have v2 : ∀ k c : Fin 128, task_run.sl.dma0_3 m d L t0 hidx0 hidx1 hidx2 (ix2 k c) = _ := fun k c =>
    (congrFun (rows_read d L t0 _ _ (task_run.sl.gather4 m d L hidx2) _) _).trans
      (gathered_apply m d L hm _ _ rfl 256 (by decide) _ _ _ _ _ k c)
  have v3 : ∀ k c : Fin 128, task_run.sl.dma0_4 m d L t0 hidx0 hidx1 hidx2 hidx3 (ix2 k c) = _ := fun k c =>
    (congrFun (rows_read d L t0 _ _ (task_run.sl.gather6 m d L hidx3) _) _).trans
      (gathered_apply m d L hm _ _ rfl 384 (by decide) _ _ _ _ _ k c)
  sl_step
  isplitl [HI]; · iexact HI
  isplitl [HX]; · iexact HX
  isplitl [HO0]; · iapply (Entails.of_eq (oDst_taken m d L hm 0 0#32 _ rfl _ _ v0)); iexact HO0
  isplitl [HO1]; · iapply (Entails.of_eq (oDst_taken m d L hm 1 128#32 _ rfl _ _ v1)); iexact HO1
  isplitl [HO2]; · iapply (Entails.of_eq (oDst_taken m d L hm 2 256#32 _ rfl _ _ v2)); iexact HO2
  isplitl [HO3]; · iapply (Entails.of_eq (oDst_taken m d L hm 3 384#32 _ rfl _ _ v3)); iexact HO3
  isplitl [HG]; · iexists _; iexact HG
  isplitl [HT]; · iexists _; iexact HT
  isplitr [HO]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hc8
  iexists _
  isplitr; swap; · iexact HO
  ipureintro
  intro p hp
  simp only [Finset.mem_insert] at hp
  rcases hp with rfl | rfl | rfl | rfl | rfl | rfl | rfl | rfl | rfl | hp
  on_goal 10 => exact .inl hp
  all_goals exact .inr rfl

/-! ## The run, in the launch's words -/

/-- A task's part is its shares of the two arrays read and its four blocks, one by one. -/
theorem part_eq (f : Buf (Elt F) (oLoc d)) (w : Fin 32) :
    part m d f w = iprop(iShare m d w ∗ xShare m d w ∗ oBlock d f (blockOf (w, 0)) ∗ oBlock d f (blockOf (w, 1))
      ∗ oBlock d f (blockOf (w, 2)) ∗ oBlock d f (blockOf (w, 3))) := by
  unfold part
  rw [show (Finset.univ : Finset (Fin 4)) = {0, 1, 2, 3} by decide]
  repeat rw [SparseCore.bigSep_insert' (by decide)]
  rw [bigSep_singleton]

/-- A block in the kernel's name is the block in the cut's. -/
theorem oPts_eq (g : Fin 4) (w : BitVec 32) (h : ∀ a, k0_off2 L w a + S128x128.size a ≤ S16384x128.size a)
    (hw : w = BitVec.ofNat 32 (128 * g.val)) (f : Buf (Elt F) (oLoc d)) :
    oBlock d f (blockOf (wL L, g)) = oPts d L w h f := by
  unfold oPts
  rw [oDst_set L g w h hw]

/-- The task turns its part of the launch's arrays into the same part with the rows taken, and leaves its scratch and
    its semaphores as it found them. -/
theorem task_body (hF : (K (F := F)).Facts) (hm : InRange m) (O : CellTallies nD τ sig (HIx 1)) (W : Waits sig (HIx 1))
    (hO : ∀ g, O g none = 0) :
    iprop(levAts (K (F := F)).L (K (F := F)).lev ∗ emp ∗ part m d (m (oLoc d)) (wL L)
        ∗ scopedBufs (thr d L) ∗ scopedSems0 (thr d L) ∗ owes (thr d L) O W)
      ⊢ wp frame (wpE (defs₀ (F := F)) 𝒱₀ (thr d L) none) Set.univ
          (cc0__gather_body L xV (Memref.isWhole_whole _) iV (Memref.isWhole_whole _) oV (Memref.isWhole_whole _)
            lV (Memref.isWhole_whole _) rV (Memref.isWhole_whole _) cc0_scratch2 cc0_scratch3 cc0_scratch4 cc0_scratch5
            cc0_scratch6 cc0_scratch7 cc0_scratch8 cc0_scratch9 cc0_scoped0)
          fun _ => iprop(part m d (taken m d hm) (wL L) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_thr,
    ownBufs_thr, part_eq, part_eq, oPts_eq d L 0 0#32 (k0_off2_inb L 0) rfl, oPts_eq d L 1 128#32 (k0_off2_inb L 1) rfl,
    oPts_eq d L 2 256#32 (k0_off2_inb L 2) rfl, oPts_eq d L 3 384#32 (k0_off2_inb L 3) rfl]
  iintro ⟨#Hlv, -, ⟨HI, HX, HO0, HO1, HO2, HO3⟩, ⟨⟨%g0, HG⟩, ⟨%t0, HT⟩, Hbufs⟩, ⟨HC, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand_r Idealize.ShloMosaic.frame (wpE (defs₀ (F := F)) 𝒱₀ (thr d L) none) Set.univ)
  isplitl [HI HX HO0 HO1 HO2 HO3 HG HT HC HO]
  · iapply (task_run m d L hm O W g0 t0)
    isplitr; · iexact Hmw
    isplitl [HI]; · iexact HI
    isplitl [HX]; · iexact HX
    isplitl [HO0]; · iexact HO0
    isplitl [HO1]; · iexact HO1
    isplitl [HO2]; · iexact HO2
    isplitl [HO3]; · iexact HO3
    isplitl [HG]; · iexact HG
    isplitl [HT]; · iexact HT
    isplitl [HC]; · iexact HC
    iexact HO
  iintro %_ ⟨HI, HX, HO0, HO1, HO2, HO3, HG, HT, HC, %W', %hW', HO⟩
  isplitl [HI HX HO0 HO1 HO2 HO3]
  · isplitl [HI]; · iexact HI
    isplitl [HX]; · iexact HX
    isplitl [HO0]; · iexact HO0
    isplitl [HO1]; · iexact HO1
    isplitl [HO2]; · iexact HO2
    iexact HO3
  isplitl [HG HT Hbufs]
  · isplitl [HG]; · iexact HG
    isplitl [HT]; · iexact HT
    iexact Hbufs
  isplitl [HC Hsems]
  · isplitl [HC]; · iexact HC
    iexact Hsems
  iexists W'
  isplitr; swap; · iexact HO
  ipureintro
  exact fun p hp => (hW' p hp).imp_right Or.inl

end Cert.Proof.Gather

end
-- ==== Proof.Launch.lean ====
/-
  The launch: what the call carries to the SparseCores and back, the entry function on the TensorCore, and the program's
  run (`run_main`): from a memory whose row numbers are in range every run ends with the two arrays unchanged, the result
  holding the rows taken and every semaphore at zero.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call carries -/

/-- The task on SparseCore `c`'s vector subcore `i`. -/
abbrev callTask (c : Fin ((K (F := F)).nCore 0)) (i : Fin ((K (F := F)).nSub 0)) : Fin 32 :=
  taskOf (Fin.cast nCore_zero c, Fin.cast nSub_zero i)

/-- What SparseCore `c` is handed, the result holding `f`: its sixteen tasks' parts. -/
abbrev corePart (d : Dev nD) (f : Buf (Elt F) (oLoc d)) (c : Fin ((K (F := F)).nCore 0)) : sProp 𝕄 :=
  bigSep Finset.univ fun i : Fin ((K (F := F)).nSub 0) => part m d f (callTask c i)

/-- Each SparseCore takes its tasks' parts and each task its own; they come back with the rows taken. -/
def P (hm : InRange m) : (K (F := F)).Pay (nD := nD) (Val := Elt F) (Name := ℕ) (U := UU) where
  st := fun q d c => match q with | 0 => corePart m d (m (oLoc d)) c
  dn := fun q d c => match q with | 0 => corePart m d (taken m d hm) c
  go := fun q d c i => match q with | 0 => part m d (m (oLoc d)) (callTask c i)
  td := fun q d c i => match q with | 0 => part m d (taken m d hm) (callTask c i)
  x := fun _ _ => iprop(emp)

instance P_storable (hm : InRange m) : (P (F := F) m hm).IsStorable where
  st q d c := match q with | 0 => (inferInstance : BI.Storable (upEmb : UEmb _ 𝕄) (corePart m d (m (oLoc d)) c))
  dn q d c := match q with | 0 => (inferInstance : BI.Storable (upEmb : UEmb _ 𝕄) (corePart m d (taken m d hm) c))
  go q d c i := match q with | 0 => (inferInstance : BI.Storable (upEmb : UEmb _ 𝕄) (part m d (m (oLoc d)) (callTask c i)))
  td q d c i := match q with | 0 => (inferInstance : BI.Storable (upEmb : UEmb _ 𝕄) (part m d (taken m d hm) (callTask c i)))

/-- The parts of all the SparseCores are the three arrays whole. -/
theorem cores_eq (d : Dev nD) (f : Buf (Elt F) (oLoc d)) :
    (bigSep Finset.univ fun c : Fin ((K (F := F)).nCore 0) => corePart m d f c)
      = iprop((iLoc d ↦{fullShare} m (iLoc d)) ∗ (xLoc d ↦{fullShare} m (xLoc d)) ∗ oLoc d ↦{fullShare} f) :=
  (whole_eq_parts m d f).symm

/-! ## The tasks -/

/-- The place in the grid of SparseCore `c`'s vector subcore `s`. -/
def coords (c : Fin (grid0.bound 0)) (s : Fin (grid0.bound 1)) : grid0.Coords :=
  fun | 0 => c | 1 => s | ⟨_ + 2, h⟩ => absurd h (Nat.not_lt.2 (Nat.le_add_left _ _))

/-- What a vector subcore runs when the call reaches it. -/
theorem defs₀_task (c : Fin τ.nSC) (s : Fin τ.nSub) :
    defs₀ (F := F) (.scVector c s) 0 ()
      = SparseCore.onTile hcore0 hsub0 (fun c s => cc0__gather_body (coords c s)
          xV (Memref.isWhole_whole _) iV (Memref.isWhole_whole _) oV (Memref.isWhole_whole _)
          lV (Memref.isWhole_whole _) rV (Memref.isWhole_whole _) cc0_scratch2 cc0_scratch3 cc0_scratch4 cc0_scratch5
          cc0_scratch6 cc0_scratch7 cc0_scratch8 cc0_scratch9 cc0_scoped0) ⟨⟩ c s := rfl

/-- Every task runs from its part to its part with the rows taken. -/
theorem tileObl (hm : InRange m) : (K (F := F)).TileObl (D (F := F)) 𝒱 (P m hm) v₀ 0 := by
  intro d c i O W hO _ _
  simp only [show (P m hm).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_task]; simp only [SparseCore.onTile, hci, and_self, ↓reduceDIte]
  exact task_body m d (coords ⟨_, hci.1⟩ ⟨_, hci.2⟩) facts hm O W hO

/-- What a SparseCore is handed is already its tasks' parts, and so is what it hands back. -/
theorem vecSplit (hm : InRange m) : (K (F := F)).VecSplit' (P m hm) 0 := by
  intro d c
  show corePart m d (m (oLoc d)) c ⊢ |={Set.univ}=> iprop(corePart m d (m (oLoc d)) c
    ∗ (corePart m d (taken m d hm) c -∗ corePart m d (taken m d hm) c))
  iintro H; imodintro
  isplitl [H]; · iexact H
  iintro H; iexact H

/-! ## The launch's own ghost state -/

def u₀ : UU := (initOf (K (F := F)).hsCells (K (F := F)).hsToks, 1)

theorem emps {I : Type} (s : Finset I) : (iprop(emp) : sProp 𝕄) ⊢ bigSep s fun _ => iprop(emp) :=
  Entails.of_eq (bigSep_emp_const s).symm

theorem hu₀ (hm : InRange m) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hm).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · iapply (emps Finset.univ); iempintro
  rw [show (fun thr : Thread nD τ => bigSep Finset.univ fun q : Fin 1 => (P (F := F) m hm).x q thr) = fun _ => iprop(emp) from
    funext fun _ => bigSep_univ_of_subsingleton (0 : Fin 1)]
  iapply (emps Finset.univ); iempintro

/-! ## The entry function -/

/-- The TensorCore's buffers are the three arrays. -/
theorem tcBufs_eq (d : Dev nD) (B : (b : Ref sig .tc) → Buf (Elt F) ((d.tc : Thread nD τ).loc b)) :
    (unscopedBufs d B : sProp 𝕄)
      = iprop((iLoc d ↦{fullShare} B main_arg0) ∗ (xLoc d ↦{fullShare} B main_arg1) ∗ oLoc d ↦{fullShare} B main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the entry function ends with: the two arrays as they were, the result with the rows taken. -/
abbrev FIN (hm : InRange m) (d : Dev nD) : sProp 𝕄 :=
  iprop((iLoc d ↦{fullShare} m (iLoc d)) ∗ (xLoc d ↦{fullShare} m (xLoc d)) ∗ oLoc d ↦{fullShare} taken m d hm)

/-- The entry function makes the one call and ends with the rows taken. -/
theorem hmain (hm : InRange m) (κ : GSem nD τ sig → ℕ) (d : Dev nD) :
    iprop((K (F := F)).ctx EH (P m hm) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hm d ∗ (K (F := F)).tcEnd d) := by
  unfold SparseCore.Cfg.tcRes SparseCore.Cfg.tcEnd
  rw [tcBufs_eq]
  simp only [main, wp_bind, wp_pure]
  iintro ⟨#Hctx, Hst, ⟨Hb, Ha, Hts, -⟩, -⟩
  iapply ((K (F := F)).wp_run (D (F := F)) 𝒱 (EH := EH) (P := P m hm) κ d 0) $$ [Hst Ha Hb Hts]
  isplitr; · iexact Hctx
  isplitl [Hst]; · iexact Hst
  isplitl [Ha]
  · iapply (Entails.of_eq (cores_eq m d (m (oLoc d))).symm); iexact Ha
  iintro ⟨Hst, Hdn⟩
  ihave Ha := (Entails.of_eq (show (bigSep Finset.univ fun c : Fin ((K (F := F)).nCore 0) => (P m hm).dn 0 d c) = _ from
    cores_eq m d (taken m d hm))) $$ Hdn
  imodintro
  isplitl [Hst]; · iexact Hst
  isplitl [Ha]; · iexact Ha
  isplitl [Hb] <;> iassumption

/-! ## The run -/

/-- What holds of a final memory on device `d`. -/
def Done (hm : InRange m) (d : Dev nD) (mem : (ℓ : Loc nD τ sig) → Buf (Elt F) ℓ) : Prop :=
  mem (iLoc d) = m (iLoc d) ∧ mem (xLoc d) = m (xLoc d) ∧ mem (oLoc d) = taken m d hm

/-- A buffer held whole is what the memory holds. -/
theorem read_whole (s' : Phys nD τ sig (Elt F)) (ℓ : Loc nD τ sig) (f : Buf (Elt F) ℓ) :
    (iprop(SI s' ∗ ℓ ↦{fullShare} f) : sProp 𝕄) ⊢ ⌜s'.mem.mem ℓ = f⌝ := by
  iintro H
  ihave H' := (SI_pointsTo_agree (st := s') (ℓ := ℓ) (I := Finset.univ) (q := fullShare) (f := f)) $$ H
  icases H' with %h
  ipureintro; exact funext fun i => h i (Finset.mem_univ i)

theorem hfin (hm : InRange m) (d : Dev nD) (s' : Phys nD τ sig (Elt F)) :
    iprop(FIN m hm d ∗ SI s') ⊢ (⌜Done m hm d s'.mem.mem⌝ : sProp 𝕄) := by
  iintro ⟨⟨Hi, Hx, Ho⟩, HS⟩
  ihave H := (persistent_entails_right (read_whole s' (iLoc d) _)) $$ [HS Hi]
  · isplitl [HS] <;> iassumption
  icases H with ⟨%hi, HS, -⟩
  ihave H := (persistent_entails_right (read_whole s' (xLoc d) _)) $$ [HS Hx]
  · isplitl [HS] <;> iassumption
  icases H with ⟨%hx, HS, -⟩
  ihave H := (read_whole s' (oLoc d) _) $$ [HS Ho]
  · isplitl [HS] <;> iassumption
  icases H with %ho
  ipureintro; exact ⟨hi, hx, ho⟩

/-- Every run from a memory whose row numbers are in range ends with the two arrays unchanged, the result holding the
    rows taken, and every semaphore at zero. -/
theorem run_main [∀ e, Nonempty (Elt F e)] (hm : InRange m) :
    θ_run (Cert.KernelIdeal.defs (F := F)) (Cert.KernelIdeal.threads (F := F)) ⟨m, fun _ => 0, ρ⟩
      fun r => (∀ d, Done m hm d r.2.mem) ∧ r.2.sem = fun _ => 0 :=
  SparseCore.Cfg.θ_run_sc_quiescent (K := K (F := F)) (D := D (F := F)) (𝒱 := 𝒱) (EH := EH) (P := P m hm) (A := ∅) facts v₀
    (fun q hq => match q with | 0 => nomatch hq)
    (fun q _ => match q with | 0 => tileObl m hm)
    (fun q _ => match q with | 0 => SparseCore.Cfg.VecSplit.of_plain (vecSplit m hm))
    m ρ main (fun _ => iprop(emp)) (FIN m hm) (u₀ (F := F)) (sep_elim_left.trans (hu₀ m hm)) (hmain m ρ hm)
    (fun d s' => Done m hm d s'.mem.mem) (hfin m hm) _ (fun _ h hz => ⟨h, hz⟩)

end Cert.Proof.Gather

end
-- ==== Proof.lean ====
/-
  The claims of `Cert.Claim`: the kernel's run changes neither argument and leaves every semaphore at zero, as printed
  and in its idealization; so does the reference's, from any memory; the idealization keeps the kernel's meaning; and on the extended reals
  kernel and reference end with equal results. Each claim of the kernel is `Gather.run_main`, read at its element types.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Range
public import proofs.«01_k».proof.Proof.Reference
public import proofs.«01_k».proof.Proof.Launch
public import Idealize.ShloMosaic.Adequacy
public import Idealize.ShloMosaic.Init

@[expose] public section

noncomputable section

namespace Cert.Proof

open Idealize.ShloMosaic Idealize.SL.Sem

/-- The kernel's precondition puts every row number in range, as printed, -/
theorem inRange_kernel {m : (ℓ : Loc Cert.Kernel.nD Cert.Kernel.τ Cert.Kernel.sig) → Buf (Elt Bits) ℓ} (h : Cert.Pre_Kernel m) :
    Gather.InRange (F := Bits) m :=
  fun d j => Range.inRange_of_test _ _ (h d) j

/-- and in the idealization. -/
theorem inRange_ideal {m : (ℓ : Loc Cert.KernelIdeal.nD Cert.KernelIdeal.τ Cert.KernelIdeal.sig) → Buf (Elt Ideal) ℓ}
    (h : Cert.Pre_KernelIdeal m) : Gather.InRange (F := Ideal) m :=
  fun d j => Range.inRange_of_test _ _ (h d) j

/-- The printed kernel's runs change neither argument and end with every semaphore at zero. -/
theorem frame_kernel : Cert.quiescent_Kernel := fun m ρ hpre =>
  (θ_run Cert.KernelIdeal.defs _ _).mono (fun _ h => ⟨fun c => ⟨(h.1 c).1, (h.1 c).2.1⟩, h.2⟩)
    (Gather.run_main (F := Bits) m ρ (inRange_kernel hpre))

/-- So do the idealized kernel's. -/
theorem frame_ideal : Cert.quiescent_KernelIdeal := fun m ρ hpre =>
  (θ_run Cert.KernelIdeal.defs _ _).mono (fun _ h => ⟨fun c => ⟨(h.1 c).1, (h.1 c).2.1⟩, h.2⟩)
    (Gather.run_main (F := Ideal) m ρ (inRange_ideal hpre))

/-- The reference's runs, from any memory, change neither argument; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the extended reals the kernel's result and the reference's are equal, element by element, from every memory whose row
    numbers are in range: both are the rows taken. -/
theorem values : Cert.algebraic_KernelIdeal_ReferenceIdeal := fun m ρ m' ρ' hpre hargs => by
  have hm := inRange_ideal hpre
  refine ⟨fun c => Gather.taken m c hm,
    (θ_run Cert.KernelIdeal.defs _ _).mono (fun _ h c => ⟨(h.1 c).2.2, (h.1 c).1, (h.1 c).2.1⟩) (Gather.run_main (F := Ideal) m ρ hm),
    (θ_run Cert.ReferenceIdeal.defs _ _).mono (fun _ h c => ⟨(h c).1.trans ?_, (h c).2⟩) (Cert.ReferenceIdeal.Value.run (F := Ideal) m' ρ')⟩
  rw [(hargs c).1, (hargs c).2]
  funext y
  obtain ⟨k, l, rfl⟩ : ∃ (k : Fin 16384) (l : Fin 128), y = ValueIdx.ix2 k l := ⟨y 0, y 1, ValueIdx.eq_ix2 y⟩
  exact Reference.ref_eq (F := Ideal) _ _ (fun j => hm c j) k l

/-- Everything the certificate claims. -/
theorem claim : Cert.Claim :=
  ⟨Cert.Kernel.Gen.facts, Cert.KernelIdeal.Gen.facts, Cert.ReferenceIdeal.Gen.facts, Cert.Pre_in_range.Gen.facts,
    frame_kernel, frame_ideal, frame_reference, fun m ρ _ => frame_reference m ρ trivial, trivial, values⟩

end Cert.Proof

end
